-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x768 : Shape := ⟨2, ![8192, 768]⟩
abbrev S8192x64 : Shape := ⟨2, ![8192, 64]⟩
abbrev S768x8 : Shape := ⟨2, ![768, 8]⟩
abbrev S8 : Shape := ⟨1, ![8]⟩
abbrev S8x832x384 : Shape := ⟨3, ![8, 832, 384]⟩
abbrev S8x384 : Shape := ⟨2, ![8, 384]⟩
abbrev S8x384x768 : Shape := ⟨3, ![8, 384, 768]⟩
abbrev S8x768 : Shape := ⟨2, ![8, 768]⟩
abbrev S3072x768 : Shape := ⟨2, ![3072, 768]⟩
abbrev S1x3072 : Shape := ⟨2, ![1, 3072]⟩
abbrev S1x8 : Shape := ⟨2, ![1, 8]⟩
abbrev S8192x8 : Shape := ⟨2, ![8192, 8]⟩
abbrev S1024x768 : Shape := ⟨2, ![1024, 768]⟩
abbrev S1024x64 : Shape := ⟨2, ![1024, 64]⟩
abbrev S1024x8 : Shape := ⟨2, ![1024, 8]⟩
abbrev S832x3072 : Shape := ⟨2, ![832, 3072]⟩
abbrev S1x832x384 : Shape := ⟨3, ![1, 832, 384]⟩
abbrev S832x384 : Shape := ⟨2, ![832, 384]⟩
abbrev S1024 : Shape := ⟨1, ![1024]⟩
abbrev S1024x1 : Shape := ⟨2, ![1024, 1]⟩
abbrev S1024x832 : Shape := ⟨2, ![1024, 832]⟩
abbrev S1024x3072 : Shape := ⟨2, ![1024, 3072]⟩
abbrev S8x3072 : Shape := ⟨2, ![8, 3072]⟩

abbrev nBuf : Space → Nat
  | .hbm => 13
  | .vmem => 16
  | .smem => 0
  | _ => 0

abbrev bufTy : (tb : Table) → Fin (tcTables nBuf tb) → BufTy
  | .hbm, ⟨0, _⟩ => ⟨S8192x768, .f32⟩
  | .hbm, ⟨1, _⟩ => ⟨S8192x64, .f32⟩
  | .hbm, ⟨2, _⟩ => ⟨S768x8, .f32⟩
  | .hbm, ⟨3, _⟩ => ⟨S8, .f32⟩
  | .hbm, ⟨4, _⟩ => ⟨S8x832x384, .f32⟩
  | .hbm, ⟨5, _⟩ => ⟨S8x384, .f32⟩
  | .hbm, ⟨6, _⟩ => ⟨S8x384x768, .f32⟩
  | .hbm, ⟨7, _⟩ => ⟨S8x768, .f32⟩
  | .hbm, ⟨8, _⟩ => ⟨S3072x768, .f32⟩
  | .hbm, ⟨9, _⟩ => ⟨S1x3072, .f32⟩
  | .hbm, ⟨10, _⟩ => ⟨S1x8, .f32⟩
  | .hbm, ⟨11, _⟩ => ⟨S8192x768, .f32⟩
  | .hbm, ⟨12, _⟩ => ⟨S8192x8, .f32⟩
  | .local _ .vmem, ⟨0, _⟩ => ⟨S1024x768, .f32⟩
  | .local _ .vmem, ⟨1, _⟩ => ⟨S1024x768, .f32⟩
  | .local _ .vmem, ⟨2, _⟩ => ⟨S1024x64, .f32⟩
  | .local _ .vmem, ⟨3, _⟩ => ⟨S1024x64, .f32⟩
  | .local _ .vmem, ⟨4, _⟩ => ⟨S768x8, .f32⟩
  | .local _ .vmem, ⟨5, _⟩ => ⟨S1x8, .f32⟩
  | .local _ .vmem, ⟨6, _⟩ => ⟨S8x832x384, .f32⟩
  | .local _ .vmem, ⟨7, _⟩ => ⟨S1x3072, .f32⟩
  | .local _ .vmem, ⟨8, _⟩ => ⟨S3072x768, .f32⟩
  | .local _ .vmem, ⟨9, _⟩ => ⟨S8x768, .f32⟩
  | .local _ .vmem, ⟨10, _⟩ => ⟨S1024x768, .f32⟩
  | .local _ .vmem, ⟨11, _⟩ => ⟨S1024x768, .f32⟩
  | .local _ .vmem, ⟨12, _⟩ => ⟨S1024x8, .f32⟩
  | .local _ .vmem, ⟨13, _⟩ => ⟨S1024x8, .f32⟩
  | .local _ .vmem, ⟨14, _⟩ => ⟨S832x3072, .bf16⟩
  | .local _ .vmem, ⟨15, _⟩ => ⟨S3072x768, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x832x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x768 : Shape := ⟨2, ![8192, 768]⟩
abbrev S8192x64 : Shape := ⟨2, ![8192, 64]⟩
abbrev S768x8 : Shape := ⟨2, ![768, 8]⟩
abbrev S8 : Shape := ⟨1, ![8]⟩
abbrev S8x832x384 : Shape := ⟨3, ![8, 832, 384]⟩
abbrev S8x384 : Shape := ⟨2, ![8, 384]⟩
abbrev S8x384x768 : Shape := ⟨3, ![8, 384, 768]⟩
abbrev S8x768 : Shape := ⟨2, ![8, 768]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x832 : Shape := ⟨2, ![8192, 832]⟩
abbrev S8x384x8192 : Shape := ⟨3, ![8, 384, 8192]⟩
abbrev S8x8192x384 : Shape := ⟨3, ![8, 8192, 384]⟩
abbrev S8x1x384 : Shape := ⟨3, ![8, 1, 384]⟩
abbrev S8x8192x768 : Shape := ⟨3, ![8, 8192, 768]⟩
abbrev S8x1x768 : Shape := ⟨3, ![8, 1, 768]⟩

abbrev nBuf : Space → Nat
  | .hbm => 100
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x64, .f32⟩
  | .hbm, ⟨2, _⟩ => ⟨S768x8, .f32⟩
  | .hbm, ⟨3, _⟩ => ⟨S8, .f32⟩
  | .hbm, ⟨4, _⟩ => ⟨S8x832x384, .f32⟩
  | .hbm, ⟨5, _⟩ => ⟨S8x384, .f32⟩
  | .hbm, ⟨6, _⟩ => ⟨S8x384x768, .f32⟩
  | .hbm, ⟨7, _⟩ => ⟨S8x768, .f32⟩
  | .hbm, ⟨8, _⟩ => ⟨S8192x8, .f32⟩
  | .hbm, ⟨9, _⟩ => ⟨S1x8, .f32⟩
  | .hbm, ⟨10, _⟩ => ⟨S8192x8, .f32⟩
  | .hbm, ⟨11, _⟩ => ⟨S8192x8, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8, .f32⟩
  | .hbm, ⟨25, _⟩ => ⟨S8192x8, .f32⟩
  | .hbm, ⟨26, _⟩ => ⟨S8192x2, .f32⟩
  | .hbm, ⟨27, _⟩ => ⟨S8192x2, .i32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2, .f32⟩
  | .hbm, ⟨35, _⟩ => ⟨S8192x2, .f32⟩
  | .hbm, ⟨36, _⟩ => ⟨S8192x832, .f32⟩
  | .hbm, ⟨37, _⟩ => ⟨S8x384x8192, .f32⟩
  | .hbm, ⟨38, _⟩ => ⟨S8x8192x384, .f32⟩
  | .hbm, ⟨39, _⟩ => ⟨S8x1x384, .f32⟩
  | .hbm, ⟨40, _⟩ => ⟨S8x8192x384, .f32⟩
  | .hbm, ⟨41, _⟩ => ⟨S8x8192x384, .f32⟩
  | .hbm, ⟨42, _⟩ => ⟨S_, .f32⟩
  | .hbm, ⟨43, _⟩ => ⟨S8x8192x384, .f32⟩
  | .hbm, ⟨44, _⟩ => ⟨S8x8192x384, .f32⟩
  | .hbm, ⟨45, _⟩ => ⟨S8x8192x768, .f32⟩
  | .hbm, ⟨46, _⟩ => ⟨S8x1x768, .f32⟩
  | .hbm, ⟨47, _⟩ => ⟨S8x8192x768, .f32⟩
  | .hbm, ⟨48, _⟩ => ⟨S8x8192x768, .f32⟩
  | .hbm, ⟨49, _⟩ => ⟨S8192, .i32⟩
  | .hbm, ⟨50, _⟩ => ⟨S_, .f32⟩
  | .hbm, ⟨51, _⟩ => ⟨S8192x768, .f32⟩
  | .hbm, ⟨52, _⟩ => ⟨S8192x1, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S8192x768, .f32⟩
  | .hbm, ⟨72, _⟩ => ⟨S8192x1, .f32⟩
  | .hbm, ⟨73, _⟩ => ⟨S8192x768, .f32⟩
  | .hbm, ⟨74, _⟩ => ⟨S8192x768, .f32⟩
  | .hbm, ⟨75, _⟩ => ⟨S8192x768, .f32⟩
  | .hbm, ⟨76, _⟩ => ⟨S8192x1, .i32⟩
  | .hbm, ⟨77, _⟩ => ⟨S8192, .i32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S_, .i32⟩
  | .hbm, ⟨86, _⟩ => ⟨S8192, .i32⟩
  | .hbm, ⟨87, _⟩ => ⟨S8192, .i1⟩
  | .hbm, ⟨88, _⟩ => ⟨S_, .i32⟩
  | .hbm, ⟨89, _⟩ => ⟨S8192, .i32⟩
  | .hbm, ⟨90, _⟩ => ⟨S8192, .i32⟩
  | .hbm, ⟨91, _⟩ => ⟨S8192, .i32⟩
  | .hbm, ⟨92, _⟩ => ⟨S8192x1, .i32⟩
  | .hbm, ⟨93, _⟩ => ⟨S8192x1, .i32⟩
  | .hbm, ⟨94, _⟩ => ⟨S8192x2, .i32⟩
  | .hbm, ⟨95, _⟩ => ⟨S8192x768, .f32⟩
  | .hbm, ⟨96, _⟩ => ⟨S8192x1, .f32⟩
  | .hbm, ⟨97, _⟩ => ⟨S8192x768, .f32⟩
  | .hbm, ⟨98, _⟩ => ⟨S8192x768, .f32⟩
  | .hbm, ⟨99, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.KernelBlock.lean ====
/- What the kernel's body leaves in its two output blocks and its two scratch buffers, for the program that fills the
   scratch and for the ones that find it filled. -/
module

public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Proof

open Cert.KernelIdeal Cert.KernelIdeal.Gen

variable {F : FTy → Type} [FloatOps F]

theorem hz2 : (![0, 0] : Fin 2 → Nat) = fun _ => 0 := funext fun a => by fin_cases a <;> rfl

/-- The positions of the eight experts, as the body writes them. -/
abbrev experts : IVec S1024x8 32 := iota .tc S1024x8 32 [1] iota_S1024x8_d1_w32

/-- The coefficients of a block of rows, from its hidden states and the gate's weights and bias. -/
def coefBlock (x : Vec F S1024x768 .f32) (g : Vec F S768x8 .f32) (b : Vec F S1x8 .f32) : FVec F S1024x8 .f32 :=
  k0_pay17 (k0_pay11 x g b) experts (k0_pay12 x g b) (k0_pay13 x g b) (k0_pay14 x g b) (k0_pay15 x g b) (k0_pay16 x g b)

/-- The weighted hidden values of a block of rows, all eight experts' side by side. -/
def hiddenBlock (x : Vec F S1024x768 .f32) (y : Vec F S1024x64 .f32) (g : Vec F S768x8 .f32) (b : Vec F S1x8 .f32)
    (w1 : Vec F S832x3072 .bf16) (b1 : Vec F S1x3072 .f32) : FVec F S1024x3072 .bf16 :=
  k0_pay18 x y (k0_pay11 x g b) experts (k0_pay12 x g b) (k0_pay13 x g b) (k0_pay14 x g b) (k0_pay15 x g b) (k0_pay16 x g b) w1 b1

/-- A block of rows of the output. -/
def outBlock (x : Vec F S1024x768 .f32) (y : Vec F S1024x64 .f32) (g : Vec F S768x8 .f32) (b : Vec F S1x8 .f32)
    (w1 : Vec F S832x3072 .bf16) (b1 : Vec F S1x3072 .f32) (w2 : Vec F S3072x768 .bf16) (b2 : Vec F S8x768 .f32) :
    FVec F S1024x768 .f32 :=
  k0_pay1 (coefBlock x g b) (hiddenBlock x y g b w1 b1) w2 b2

/-- The write of expert `e`'s first-layer weights into the joined array: columns `384 * e` to `384 * e + 383`. -/
def joinPiece (x4 : Vec F S8x832x384 .f32) (e : Fin 8) : View.Piece (Elt F) S832x3072 .bf16 :=
  ⟨Rect.unit ![0, 384 * e.val] ![832, 384] (fun a => by fin_cases a <;> simp <;> omega),
    k0_pay2 (View.ld x4 (Rect.unit (s := S8x832x384) ![e.val, 0, 0] ![1, 832, 384] (fun a => by fin_cases a <;> simp <;> omega)))⟩

/-- The eight experts' first-layer weights side by side, as the first program leaves them. -/
def joined (x4 : Vec F S8x832x384 .f32) : Vec F S832x3072 .bf16 :=
  View.canon (([7, 6, 5, 4, 3, 2, 1, 0] : List (Fin 8)).map (joinPiece x4))

section
variable (c : Dev nD) (i : grid0.Coords) (arg1 : Memref sig .tc .vmem S1024x768 .f32) (harg1 : arg1.IsWhole)
  (arg2 : Memref sig .tc .vmem S1024x64 .f32) (harg2 : arg2.IsWhole) (arg3 : Memref sig .tc .vmem S768x8 .f32) (harg3 : arg3.IsWhole)
  (arg4 : Memref sig .tc .vmem S1x8 .f32) (harg4 : arg4.IsWhole) (arg5 : Memref sig .tc .vmem S8x832x384 .f32) (harg5 : arg5.IsWhole)
  (arg6 : Memref sig .tc .vmem S1x3072 .f32) (harg6 : arg6.IsWhole) (arg7 : Memref sig .tc .vmem S3072x768 .f32) (harg7 : arg7.IsWhole)
  (arg8 : Memref sig .tc .vmem S8x768 .f32) (harg8 : arg8.IsWhole) (arg9 : Memref sig .tc .vmem S1024x768 .f32) (harg9 : arg9.IsWhole)
  (arg10 : Memref sig .tc .vmem S1024x8 .f32) (harg10 : arg10.IsWhole) (arg11 : Memref sig .tc .vmem S832x3072 .bf16) (harg11 : arg11.IsWhole)
  (arg12 : Memref sig .tc .vmem S3072x768 .bf16) (harg12 : arg12.IsWhole)
  (x0 : Vec F S1024x768 .f32) (x1 : Vec F S1024x64 .f32) (x2 : Vec F S768x8 .f32) (x3 : Vec F S1x8 .f32)
  (x4 : Vec F S8x832x384 .f32) (x5 : Vec F S1x3072 .f32) (x6 : Vec F S3072x768 .f32) (x7 : Vec F S8x768 .f32)
  (xs0 : Vec F S832x3072 .bf16) (xs1 : Vec F S3072x768 .bf16)

/-- A program that finds the scratch filled writes the block of the output. -/
theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = outBlock x0 x1 x2 x3 xs0 x5 xs1 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S1024x768) hz2, View.ld_unit_zero (S := S1024x64) hz2, View.ld_unit_zero (S := S768x8) hz2,
    View.ld_unit_zero (S := S1x8) hz2, View.ld_unit_zero (S := S1x3072) hz2, View.ld_unit_zero (S := S8x768) hz2,
    View.ld_unit_zero (S := S832x3072) hz2, View.ld_unit_zero (S := S3072x768) hz2]
  rfl

/-- A program that finds the scratch filled writes the block of the gate's probabilities. -/
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = k0_pay11 x0 x2 x3 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S1024x768) hz2, View.ld_unit_zero (S := S1024x64) hz2, View.ld_unit_zero (S := S768x8) hz2,
    View.ld_unit_zero (S := S1x8) hz2, View.ld_unit_zero (S := S1x3072) hz2, View.ld_unit_zero (S := S8x768) hz2,
    View.ld_unit_zero (S := S832x3072) hz2, View.ld_unit_zero (S := S3072x768) hz2]
/-- The first program writes the block of the gate's probabilities. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = k0_pay11 x0 x2 x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S1024x768) hz2, View.ld_unit_zero (S := S1024x64) hz2, View.ld_unit_zero (S := S768x8) hz2,
    View.ld_unit_zero (S := S1x8) hz2, View.ld_unit_zero (S := S1x3072) hz2, View.ld_unit_zero (S := S8x768) hz2,
    View.ld_unit_zero (S := S832x3072) hz2, View.ld_unit_zero (S := S3072x768) hz2]
/-- The first program leaves the joined first-layer weights in the scratch. -/
theorem sout_A_0 (hc0 : cond0_0 i) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = joined x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp only [View.readAt_eq_ld, harg5.read_unread]
  rfl
/-- The first program leaves the second-layer weights in the scratch. -/
theorem sout_A_1 (hc0 : cond0_0 i) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = k0_pay10 x6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S1024x768) hz2, View.ld_unit_zero (S := S1024x64) hz2, View.ld_unit_zero (S := S768x8) hz2,
    View.ld_unit_zero (S := S1x8) hz2, View.ld_unit_zero (S := S1x3072) hz2, View.ld_unit_zero (S := S8x768) hz2,
    View.ld_unit_zero (S := S832x3072) hz2, View.ld_unit_zero (S := S3072x768) hz2]
/-- The first program writes the block of the output, from the weights it has just put in the scratch. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
      = outBlock x0 x1 x2 x3 (joined x4) x5 (k0_pay10 x6) x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  rw [View.readCov_unit_zero (S := S3072x768) _ hz2, View.readCov_eq_canon']
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S1024x768) hz2, View.ld_unit_zero (S := S1024x64) hz2, View.ld_unit_zero (S := S768x8) hz2,
    View.ld_unit_zero (S := S1x8) hz2, View.ld_unit_zero (S := S1x3072) hz2, View.ld_unit_zero (S := S8x768) hz2,
    View.ld_unit_zero (S := S832x3072) hz2, View.ld_unit_zero (S := S3072x768) hz2]
  have hj : ∀ v w, v = w → k0_pay1 (coefBlock x0 x2 x3) (hiddenBlock x0 x1 x2 x3 v x5) (k0_pay10 x6) x7
      = outBlock x0 x1 x2 x3 w x5 (k0_pay10 x6) x7 := by
    rintro _ _ rfl; rfl
  refine hj _ _ (Eq.trans ?_ (View.ld_unit_zero (S := S832x3072) hz2 inb_S832x3072_S832x3072_0_0 (joined x4)))
  funext k
  refine congrFun (?h : View.canon _ = joined x4) _
  rfl

end

end Cert.Proof
-- ==== Proof.TopTwo.lean ====
/- The choice of the two greatest of eight gate probabilities, in the two ways the programs write it: by rounds of
   "the greatest, at its first position, then struck out", and by a stable sort. Nothing here mentions either program. -/
module

public import Idealize.ShloMosaic.Lib.Pointwise
public import Idealize.ShloMosaic.PureOps.Ideal.Laws
public import Idealize.ShloMosaic.Lib.SortFacts
public import Idealize.ShloMosaic.Lib.SortPrefix

@[expose] public section

set_option maxRecDepth 16384

noncomputable section

namespace Cert.Proof

open Idealize.ShloMosaic

/-! ## The two greatest -/

/-- `i` holds the greatest of the eight numbers and `j` the greatest of the others, the lower position first
    among equals in both. -/
structure TopTwo (p : Fin 8 → EReal) (i j : Fin 8) : Prop where
  ne : j ≠ i
  le_first : ∀ k, p k ≤ p i
  first_min : ∀ k, p k = p i → i ≤ k
  le_second : ∀ k, k ≠ i → p k ≤ p j
  second_min : ∀ k, k ≠ i → p k = p j → j ≤ k

/-! ## By a stable sort -/

/-- Position `k` sorts before position `k'`: its number is greater. -/
def greater (p : Fin 8 → EReal) (k k' : Fin 8) : Bool := decide (p k' < p k)

/-- The same, the lower position first among equals. -/
def greaterThenFirst (p : Fin 8 → EReal) (k k' : Fin 8) : Bool :=
  greater p k k' || (decide (p k = p k') && decide (k < k'))

/-- With ties broken by position the order is total. -/
theorem greaterThenFirst_total (p : Fin 8 → EReal) : StrictTotalBefore (greaterThenFirst p) :=
  StrictTotalBefore.of_key_then_position (fun a b : EReal => decide (b < a)) p (by simp)
    (fun a b c h h' => by simp only [decide_eq_true_eq] at *; exact lt_trans h' h)
    (fun a b => by
      rcases lt_trichotomy a b with h | h | h
      · exact Or.inr (Or.inr (by simpa using h))
      · exact Or.inr (Or.inl h)
      · exact Or.inl (by simpa using h))

/-- A stable sort of positions listed in increasing order breaks ties by position. -/
theorem stableSort_greater (p : Fin 8 → EReal) (l : List (Fin 8)) (hl : l.Pairwise (· < ·)) :
    stableSort (greater p) l = stableSort (greaterThenFirst p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [greaterThenFirst, not_lt.mpr hab.le]

theorem sortedFrom_greater (p : Fin 8 → EReal) : sortedFrom (greater p) = sortedFrom (greaterThenFirst p) := by
  have h : sortPositions 8 (greater p) = sortPositions 8 (greaterThenFirst p) :=
    stableSort_greater p _ (List.pairwise_lt_finRange 8)
  funext k
  unfold sortedFrom
  rw [List.get_of_eq h]
  rfl

/-- The first two positions of the stable sort are the two greatest. -/
theorem topTwo_sortedFrom (p : Fin 8 → EReal) : TopTwo p (sortedFrom (greater p) 0) (sortedFrom (greater p) 1) := by
  rw [sortedFrom_greater]
  have hT := greaterThenFirst_total p
  have hinv := sortedFrom_noInversion (greaterThenFirst p) (greaterThenFirst p) (fun a b h => hT.asymm a b h)
    (fun _ _ h => h) hT.negTrans
  have hinj := sortedFrom_injective (greaterThenFirst p)
  have hsurj := sortedFrom_surjective (greaterThenFirst p)
  generalize sortedFrom (greaterThenFirst p) = σ at *
  have key : ∀ a b : Fin 8, a < b → p (σ b) ≤ p (σ a) ∧ (p (σ b) = p (σ a) → σ a ≤ σ b) := fun a b hab => by
    have h := hinv a b hab
    simp only [greaterThenFirst, greater, Bool.or_eq_false_iff, Bool.and_eq_false_iff, decide_eq_false_iff_not,
      not_lt] at h
    refine ⟨h.1, fun e => ?_⟩
    rcases h.2 with h2 | h2
    · exact absurd e h2
    · exact h2
  have all : ∀ a k : Fin 8, (∀ b, b < a → k ≠ σ b) → p k ≤ p (σ a) ∧ (p k = p (σ a) → σ a ≤ k) := fun a k hk => by
    obtain ⟨b, rfl⟩ := hsurj k
    rcases lt_trichotomy b a with h | h | h
    · exact absurd rfl (hk b h)
    · subst h; exact ⟨le_rfl, fun _ => le_rfl⟩
    · exact key a b h
  have h0 : ∀ k, p k ≤ p (σ 0) ∧ (p k = p (σ 0) → σ 0 ≤ k) := fun k =>
    all 0 k fun b hb => absurd hb (Fin.not_lt_zero b)
  have h1 : ∀ k, k ≠ σ 0 → p k ≤ p (σ 1) ∧ (p k = p (σ 1) → σ 1 ≤ k) := fun k hk =>
    all 1 k fun b hb => by
      have : b = 0 := by omega
      subst this; exact hk
  exact ⟨fun h => absurd (hinj h) (by decide), fun k => (h0 k).1, fun k => (h0 k).2, fun k hk => (h1 k hk).1,
    fun k hk => (h1 k hk).2⟩

/-! ## By two rounds of striking out the greatest -/

/-- The greatest of eight numbers, from −∞. -/
def rowMax (p : Fin 8 → EReal) : EReal := Finset.univ.fold max ⊥ p

/-- The first position, as a word, at which the eight numbers are `v`; 8 if there is none. -/
def firstAt (p : Fin 8 → EReal) (v : EReal) : BitVec 32 :=
  Finset.univ.fold IntOp.minsi 2147483647#32 fun e : Fin 8 => if p e = v then BitVec.ofNat 32 e.val else 8#32

theorem le_rowMax (p : Fin 8 → EReal) (k : Fin 8) : p k ≤ rowMax p := by
  unfold rowMax
  exact (Finset.le_fold_max _).mpr (Or.inr ⟨k, Finset.mem_univ k, le_rfl⟩)

theorem rowMax_eq_of_greatest (p : Fin 8 → EReal) (i : Fin 8) (h : ∀ k, p k ≤ p i) : rowMax p = p i :=
  le_antisymm ((Finset.fold_max_le _).mpr ⟨bot_le, fun k _ => h k⟩) (le_rowMax p i)

theorem exists_eq_rowMax (p : Fin 8 → EReal) : ∃ i, p i = rowMax p := by
  obtain ⟨i, -, h⟩ := Finset.exists_max_image Finset.univ p ⟨0, Finset.mem_univ _⟩
  exact ⟨i, (rowMax_eq_of_greatest p i fun k => h k (Finset.mem_univ k)).symm⟩

/-- The least of the marked positions, over every marking of the eight. -/
theorem fold_minsi_marked : ∀ (b : Fin 8 → Bool) (i : Fin 8), b i = true → (∀ k, b k = true → i ≤ k) →
    Finset.univ.fold IntOp.minsi 2147483647#32 (fun e : Fin 8 => if b e = true then BitVec.ofNat 32 e.val else 8#32)
      = BitVec.ofNat 32 i.val := by
  decide +kernel

theorem firstAt_eq (p : Fin 8 → EReal) (v : EReal) (i : Fin 8) (hi : p i = v) (hmin : ∀ k, p k = v → i ≤ k) :
    firstAt p v = BitVec.ofNat 32 i.val := by
  have h := fold_minsi_marked (fun e => decide (p e = v)) i (by simpa using hi) (fun k hk => hmin k (by simpa using hk))
  simpa [firstAt] using h

theorem ofNat_inj (i e : Fin 8) : BitVec.ofNat 32 e.val = BitVec.ofNat 32 i.val ↔ e = i := by
  revert i e; decide +kernel

/-- The eight numbers with those at the position of word `w` struck out. -/
def struck (p : Fin 8 → EReal) (w : BitVec 32) (e : Fin 8) : EReal := if BitVec.ofNat 32 e.val = w then ⊥ else p e

/-- The greatest number's position, and the second's, as the rounds find them. -/
def word1 (p : Fin 8 → EReal) : BitVec 32 := firstAt p (rowMax p)
def word2 (p : Fin 8 → EReal) : BitVec 32 := firstAt (struck p (word1 p)) (rowMax (struck p (word1 p)))

/-- The coefficient of expert `e`: its probability if it is one of the two found, over the two's sum and `ε`. -/
def coef (ε : EReal) (p : Fin 8 → EReal) (e : Fin 8) : EReal :=
  Ideal.div ((if BitVec.ofNat 32 e.val = word1 p then p e else 0) + (if BitVec.ofNat 32 e.val = word2 p then p e else 0))
    (rowMax p + rowMax (struck p (word1 p)) + ε)

/-- On real numbers the rounds find the two greatest, so the coefficients are theirs. -/
theorem coef_of_topTwo (ε : EReal) (p : Fin 8 → EReal) (i j : Fin 8) (h : TopTwo p i j) (hb : ∀ k, p k ≠ ⊥) (e : Fin 8) :
    coef ε p e = Ideal.div ((if e = i then p e else 0) + (if e = j then p e else 0)) (p i + p j + ε) := by
  have m1 : rowMax p = p i := rowMax_eq_of_greatest p i h.le_first
  have w1 : word1 p = BitVec.ofNat 32 i.val := by
    unfold word1; rw [m1]; exact firstAt_eq p _ i rfl h.first_min
  have hs : ∀ k, struck p (word1 p) k = if k = i then ⊥ else p k := fun k => by
    unfold struck; simp only [w1, ofNat_inj]
  have sj : struck p (word1 p) j = p j := by rw [hs, if_neg h.ne]
  have m2 : rowMax (struck p (word1 p)) = p j := by
    rw [← sj]
    refine rowMax_eq_of_greatest _ j fun k => ?_
    rw [sj, hs]
    split
    · exact bot_le
    · rename_i hk; exact h.le_second k hk
  have w2 : word2 p = BitVec.ofNat 32 j.val := by
    unfold word2; rw [m2]
    refine firstAt_eq _ _ j sj fun k hk => ?_
    rw [hs] at hk
    split at hk
    · exact absurd hk.symm (hb j)
    · rename_i hki; exact h.second_min k hki hk
  unfold coef
  rw [m2, m1]
  simp only [w1, w2, ofNat_inj]

end Cert.Proof
-- ==== Proof.Gate.lean ====
/- The gate of one row: a softmax over eight logits, what values it can take, and the weighted sum over experts that
   the two chosen probabilities give. Nothing here mentions either program. -/
module

public import proofs.«01_k».proof.Proof.TopTwo
public import Idealize.ShloMosaic.Lib.Tactic.WordOmega

@[expose] public section

set_option maxRecDepth 16384

noncomputable section

namespace Cert.Proof

open Idealize.ShloMosaic

/-- The softmax of eight logits, shifted by the greatest. -/
def softmax (l : Fin 8 → EReal) (e : Fin 8) : EReal :=
  Ideal.div (Ideal.exp (l e - rowMax l)) (∑ k, Ideal.exp (l k - rowMax l))

/-- A row of probabilities is all −∞ (the logits' greatest is infinite) or all real and not negative. -/
def GateRow (p : Fin 8 → EReal) : Prop := (∀ e, p e = ⊥) ∨ ∃ r : Fin 8 → ℝ, (∀ e, 0 ≤ r e) ∧ ∀ e, p e = (r e : EReal)

theorem div_zero_zero : Ideal.div 0 0 = ⊥ := by simp [Ideal.div]

/-- Off a zero divisor the quotient of reals is the real quotient. -/
theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- Shifted by a real greatest logit, every exponential is a real that is not negative. -/
theorem exp_shift_real (x : EReal) (r : ℝ) (hx : x ≤ r) : ∃ y : ℝ, 0 ≤ y ∧ Ideal.exp (x - r) = (y : EReal) := by
  induction x with
  | bot => exact ⟨0, le_rfl, by rw [EReal.bot_sub]; rfl⟩
  | top => exact absurd hx (by simp)
  | coe a => exact ⟨Real.exp (a - r), (Real.exp_pos _).le, by rw [← EReal.coe_sub]; rfl⟩

/-- Where the greatest logit is infinite every shifted exponential is zero, so every probability is `0 / 0`. -/
theorem softmax_of_exp_zero (l : Fin 8 → EReal) (h : ∀ k, Ideal.exp (l k - rowMax l) = 0) (e : Fin 8) : softmax l e = ⊥ := by
  unfold softmax
  simp only [h, Finset.sum_const_zero, div_zero_zero]

/-- A sum of reals, in the extended reals. -/
theorem coe_sum_real {n : Nat} (y : Fin n → ℝ) : ((∑ k, y k : ℝ) : EReal) = ∑ k, (y k : EReal) := by
  classical
  induction (Finset.univ : Finset (Fin n)) using Finset.induction_on with
  | empty => simp
  | insert a s ha ih => rw [Finset.sum_insert ha, Finset.sum_insert ha, EReal.coe_add, ih]

/-- A softmax row is one of the two kinds. -/
theorem gateRow_softmax (l : Fin 8 → EReal) : GateRow (softmax l) := by
  obtain ⟨i, hi⟩ := exists_eq_rowMax l
  have hle := le_rowMax l
  rcases hm : rowMax l with _ | _ | r
  · refine Or.inl (softmax_of_exp_zero l fun k => ?_)
    have hk : l k = ⊥ := le_bot_iff.mp ((hle k).trans_eq hm)
    rw [hk, EReal.bot_sub]; rfl
  · refine Or.inl (softmax_of_exp_zero l fun k => ?_)
    have hm' : rowMax l = ⊤ := hm
    rw [hm', EReal.sub_top]; rfl
  · refine Or.inr ?_
    have hm' : rowMax l = (r : EReal) := hm
    choose y hy0 hy using fun k => exp_shift_real (l k) r (hm' ▸ hle k)
    have hs : (∑ k, Ideal.exp (l k - rowMax l)) = ((∑ k, y k : ℝ) : EReal) := by
      rw [hm', Finset.sum_congr rfl fun k _ => hy k, coe_sum_real]
    have hyi : y i = 1 := by
      have h := hy i
      rw [hi, hm', ← EReal.coe_sub, sub_self] at h
      have h' : ((Real.exp 0 : ℝ) : EReal) = (y i : EReal) := h
      rw [Real.exp_zero] at h'
      exact (EReal.coe_injective h').symm
    have hpos : 0 < ∑ k, y k :=
      lt_of_lt_of_le (by rw [hyi]; exact one_pos) (Finset.single_le_sum (fun k _ => hy0 k) (Finset.mem_univ i))
    refine ⟨fun e => y e / ∑ k, y k, fun e => div_nonneg (hy0 e) hpos.le, fun e => ?_⟩
    unfold softmax
    rw [hs, hm', hy e, div_real _ _ hpos.ne']

/-- Divided by −∞ everything is zero. -/
theorem div_bot (x : EReal) : Ideal.div x ⊥ = 0 := by simp [Ideal.div]

/-- In a row that is all −∞ every coefficient is zero. -/
theorem coef_of_bot (ε : EReal) (p : Fin 8 → EReal) (h : ∀ e, p e = ⊥) (e : Fin 8) : coef ε p e = 0 := by
  have m1 : rowMax p = ⊥ := by obtain ⟨i, hi⟩ := exists_eq_rowMax p; rw [← hi, h i]
  unfold coef
  rw [m1, EReal.bot_add, EReal.bot_add, div_bot]

/-- Every coefficient is a real that is not negative. -/
theorem coef_real (ε : ℝ) (hε : 0 < ε) (p : Fin 8 → EReal) (hp : GateRow p) (e : Fin 8) :
    ∃ r : ℝ, 0 ≤ r ∧ coef ε p e = (r : EReal) := by
  rcases hp with h | ⟨r, hr, h⟩
  · exact ⟨0, le_rfl, by rw [coef_of_bot ε p h e]; rfl⟩
  · have hT := topTwo_sortedFrom p
    generalize sortedFrom (greater p) 0 = i at hT
    generalize sortedFrom (greater p) 1 = j at hT
    rw [coef_of_topTwo ε p i j hT (fun k => by rw [h]; exact EReal.coe_ne_bot _) e]
    have hD : 0 < r i + r j + ε := add_pos_of_nonneg_of_pos (add_nonneg (hr i) (hr j)) hε
    refine ⟨((if e = i then r e else 0) + (if e = j then r e else 0)) / (r i + r j + ε),
      div_nonneg (add_nonneg (by split <;> simp [hr]) (by split <;> simp [hr])) hD.le, ?_⟩
    rw [← div_real _ _ hD.ne', h, h, h]
    simp only [EReal.coe_add, apply_ite (fun x : ℝ => (x : EReal)), EReal.coe_zero]

/-- The coefficients' weighted sum over the eight experts is the two chosen experts' weighted sum. -/
theorem sum_coef (ε : ℝ) (hε : 0 < ε) (p f : Fin 8 → EReal) (hp : GateRow p) (i j : Fin 8) (hT : TopTwo p i j) :
    ∑ e, coef ε p e * f e
      = Ideal.div (p i) (p i + p j + ε) * f i + Ideal.div (p j) (p i + p j + ε) * f j := by
  rcases hp with h | ⟨r, hr, h⟩
  · have h0 : ∀ e, coef ε p e * f e = 0 := fun e => by rw [coef_of_bot ε p h e, zero_mul]
    rw [Finset.sum_congr rfl fun e _ => h0 e, h i, h j, EReal.bot_add, EReal.bot_add, div_bot]
    simp
  · have hb : ∀ k, p k ≠ ⊥ := fun k => by rw [h]; exact EReal.coe_ne_bot _
    have hD : 0 < r i + r j + ε := add_pos_of_nonneg_of_pos (add_nonneg (hr i) (hr j)) hε
    have hz : Ideal.div 0 (p i + p j + ε) = 0 := by
      have := div_real 0 _ hD.ne'
      rw [h, h]
      simpa using this
    rw [Finset.sum_congr rfl fun e _ => congrArg (· * f e) (coef_of_topTwo ε p i j hT hb e),
      ← Finset.add_sum_erase _ _ (Finset.mem_univ i),
      ← Finset.add_sum_erase _ _ (Finset.mem_erase.mpr ⟨hT.ne, Finset.mem_univ j⟩),
      Finset.sum_eq_zero (s := (Finset.univ.erase i).erase j)]
    · rw [if_pos rfl, if_neg hT.ne.symm, if_neg hT.ne, if_pos rfl, add_zero, zero_add, add_zero]
    · intro e he
      rw [if_neg (Finset.ne_of_mem_erase (Finset.mem_of_mem_erase he)), if_neg (Finset.ne_of_mem_erase he), add_zero, hz,
        zero_mul]

/-- A real factor that is not negative distributes over a sum. -/
theorem mul_sum_real {n : Nat} (r : ℝ) (hr : 0 ≤ r) (g : Fin n → EReal) : (r : EReal) * ∑ k, g k = ∑ k, (r : EReal) * g k := by
  classical
  induction (Finset.univ : Finset (Fin n)) using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Weighting each expert's hidden values before the second product, with the biases added after, is weighting each
    expert's whole output. -/
theorem mix {n : Nat} (c : Fin 8 → EReal) (hc : ∀ e, ∃ r : ℝ, 0 ≤ r ∧ c e = (r : EReal)) (H w : Fin 8 → Fin n → EReal)
    (b : Fin 8 → EReal) :
    ∑ e, ∑ h, H e h * c e * w e h + ∑ e, c e * b e = ∑ e, c e * (∑ h, H e h * w e h + b e) := by
  rw [← Finset.sum_add_distrib]
  refine Finset.sum_congr rfl fun e _ => ?_
  obtain ⟨r, hr, he⟩ := hc e
  rw [he, EReal.left_distrib_of_nonneg_of_ne_top (EReal.coe_nonneg.mpr hr) (EReal.coe_ne_top r), mul_sum_real r hr]
  congr 1
  exact Finset.sum_congr rfl fun h _ => by rw [mul_comm (H e h), mul_assoc]

/-- Column `h` of expert `e` among the eight experts' columns side by side. -/
def col (e : Fin 8) (h : Fin 384) : Fin 3072 := ⟨384 * e.val + h.val, by omega⟩

/-- A sum over all the columns is the sum over experts of the sums over each one's columns. -/
theorem sum_col (g : Fin 3072 → EReal) : ∑ k, g k = ∑ e, ∑ h, g (col e h) := by
  rw [← Fintype.sum_prod_type' (fun e h => g (col e h))]
  exact (Fintype.sum_equiv finProdFinEquiv (fun q : Fin 8 × Fin 384 => g (col q.1 q.2)) g fun q =>
    congrArg g (Fin.ext (by simp [col, finProdFinEquiv, add_comm]))).symm

/-- Which expert a column is of, as the two integer comparisons compute it. -/
theorem col_mask (x e : Fin 8) (h : Fin 384) :
    IntOp.andi (IntOp.cmpi CmpIPredicate.sge (BitVec.ofNat 32 (col e h).val) (IntOp.muli (BitVec.ofNat 32 x.val) 384#32))
      (IntOp.cmpi CmpIPredicate.slt (BitVec.ofNat 32 (col e h).val)
        (IntOp.addi (IntOp.muli (BitVec.ofNat 32 x.val) 384#32) 384#32)) = BitVec.ofBool (decide (x = e)) := by
  have hm : IntOp.muli (BitVec.ofNat 32 x.val) 384#32 = BitVec.ofNat 32 (384 * x.val) := by
    revert x; decide
  have ha : IntOp.addi (BitVec.ofNat 32 (384 * x.val)) 384#32 = BitVec.ofNat 32 (384 * x.val + 384) := by
    revert x; decide
  rw [hm, ha]
  have hx := x.isLt
  have hc := (col e h).isLt
  have hce : (col e h).val = 384 * e.val + h.val := rfl
  have hh := h.isLt
  have hxe : x = e ↔ x.val = e.val := Fin.ext_iff
  clear hm ha
  have hd : decide (x = e) = (decide (384 * x.val ≤ (col e h).val) && decide ((col e h).val < 384 * x.val + 384)) := by
    rw [Bool.eq_iff_iff]
    simp only [decide_eq_true_eq, Bool.and_eq_true]
    omega
  rw [hd]
  word_omega

/-- The mask row picks one coefficient out of the eight. -/
theorem sum_col_mask (c : Fin 8 → EReal) (e : Fin 8) (h : Fin 384) :
    ∑ x : Fin 8, c x * FloatOps.sitofp (F := Ideal) FTy.f32 (BitVec.setWidth 32
      (IntOp.andi (IntOp.cmpi CmpIPredicate.sge (BitVec.ofNat 32 (col e h).val) (IntOp.muli (BitVec.ofNat 32 x.val) 384#32))
        (IntOp.cmpi CmpIPredicate.slt (BitVec.ofNat 32 (col e h).val)
          (IntOp.addi (IntOp.muli (BitVec.ofNat 32 x.val) 384#32) 384#32)))) = c e := by
  have key : ∀ x : Fin 8, (c x * FloatOps.sitofp (F := Ideal) FTy.f32 (BitVec.setWidth 32
      (BitVec.ofBool (decide (x = e)))) : EReal) = if x = e then c x else 0 := fun x => by
    show c x * (((BitVec.setWidth 32 (BitVec.ofBool (decide (x = e)))).toInt : ℝ) : EReal) = _
    by_cases hx : x = e
    · rw [if_pos hx, decide_eq_true hx]; simp
    · rw [if_neg hx, decide_eq_false hx]; simp
  simp only [col_mask]
  rw [Finset.sum_congr rfl fun x _ => key x]
  simp

/-- The constant added to the two probabilities' sum is a positive real. -/
theorem eps_real : ∃ ε : ℝ, 0 < ε ∧ Ideal.ofBits FTy.f32 841731191#32 = (ε : EReal) := by
  refine ⟨(2 ^ 23 + 2870391 : ℕ) * (2 : ℝ) ^ (-50 : ℤ), by positivity, ?_⟩
  simp [Ideal.ofBits, Ideal.ieee]

/-- The floor of every maximum is −∞. -/
theorem ofBits_bot : Ideal.ofBits FTy.f32 4286578688#32 = ⊥ := by
  simp [Ideal.ofBits, Ideal.ieee]

end Cert.Proof
-- ==== Proof.Mixture.lean ====
/- The two results as plain formulas of the arguments: the gate's probabilities and the mixture of the two chosen
   experts. -/
module

public import proofs.«01_k».proof.Proof.Gate

@[expose] public section

noncomputable section

namespace Cert.Proof

open Idealize.ShloMosaic

variable (x : Fin 8192 → Fin 768 → EReal) (y : Fin 8192 → Fin 64 → EReal) (g : Fin 768 → Fin 8 → EReal) (b : Fin 8 → EReal)
  (w1 : Fin 8 → Fin 832 → Fin 384 → EReal) (b1 : Fin 8 → Fin 384 → EReal) (w2 : Fin 8 → Fin 384 → Fin 768 → EReal)
  (b2 : Fin 8 → Fin 768 → EReal)

/-- The gate's probabilities of token `r`. -/
def gate (r : Fin 8192) : Fin 8 → EReal := softmax fun e => ∑ k, x r k * g k e + b e

/-- What expert `e` gives for token `r`: its second layer over the positive part of its first layer, whose input is the
    token's hidden state followed by its context. -/
def expert (r : Fin 8192) (e : Fin 8) (o : Fin 768) : EReal :=
  ∑ h, max (∑ k : Fin 768, x r k * w1 e ⟨k.val, by omega⟩ h + ∑ k : Fin 64, y r k * w1 e ⟨768 + k.val, by omega⟩ h + b1 e h) 0
    * w2 e h o + b2 e o

/-- The number added below the two probabilities. -/
abbrev eps : EReal := Ideal.ofBits FTy.f32 841731191#32

end Cert.Proof
-- ==== Proof.KernelRow.lean ====
/- What a row of a block holds: the softmax of the gate's logits, the coefficients of the two chosen experts, and the
   mixture of the experts. -/
module

public import proofs.«01_k».proof.Proof.KernelBlock
public import proofs.«01_k».proof.Proof.Mixture
public import Idealize.ShloMosaic.Lib.Pointwise

@[expose] public section

set_option maxRecDepth 16384

noncomputable section

namespace Cert.Proof

open Idealize.ShloMosaic Cert.KernelIdeal Cert.KernelIdeal.Gen

/-- A choice by an equality of words is a choice by the equality. -/
theorem select_cmpi_eq {α : Type} (v w : BitVec 32) (a b : α) :
    Scalar.select (IntOp.cmpi CmpIPredicate.eq v w) a b = if v = w then a else b := by
  by_cases h : v = w
  · simp [Scalar.select, IntOp.cmpi, h]
  · simp [Scalar.select, IntOp.cmpi, h, beq_eq_false_iff_ne.mpr h]

/-- The gate's logits of row `r`. -/
def logits (x : Vec Ideal S1024x768 .f32) (g : Vec Ideal S768x8 .f32) (b : Vec Ideal S1x8 .f32) (r : Fin 1024) (e : Fin 8) : EReal :=
  ∑ k : Fin 768, x (ix2 r k) * g (ix2 k e) + b (ix2 0 e)

variable (x : Vec Ideal S1024x768 .f32) (y : Vec Ideal S1024x64 .f32) (g : Vec Ideal S768x8 .f32) (b : Vec Ideal S1x8 .f32)

/-- A row of the probabilities is the softmax of the row's logits. -/
theorem pay11_row (r : Fin 1024) (e : Fin 8) : k0_pay11 x g b (ix2 r e) = softmax (logits x g b r) e := by
  pointwise [k0_pay11, ofBits_bot]
  rfl

/-- The row's largest probability. -/
theorem pay12_row (r : Fin 1024) (e : Fin 1) : k0_pay12 x g b (ix2 r e) = rowMax (softmax (logits x g b r)) := by
  pointwise [k0_pay12, ofBits_bot]
  simp only [pay11_row]
  rfl

/-- The mark of the first place where the row's largest probability stands. -/
theorem pay13_row (r : Fin 1024) (e : Fin 8) :
    k0_pay13 x g b (ix2 r e) = IntOp.cmpi .eq (BitVec.ofNat 32 e.val) (word1 (softmax (logits x g b r))) := by
  pointwise [k0_pay13]
  simp only [pay11_row, pay12_row]
  rfl

/-- The row with its largest probability struck out. -/
theorem pay14_row (r : Fin 1024) (e : Fin 8) :
    k0_pay14 x g b (ix2 r e) = struck (softmax (logits x g b r)) (word1 (softmax (logits x g b r))) e := by
  pointwise [k0_pay14, ofBits_bot]
  simp only [pay11_row, pay13_row, select_cmpi_eq]
  rfl

/-- The largest of the struck row. -/
theorem pay15_row (r : Fin 1024) (e : Fin 1) :
    k0_pay15 x g b (ix2 r e) = rowMax (struck (softmax (logits x g b r)) (word1 (softmax (logits x g b r)))) := by
  pointwise [k0_pay15, ofBits_bot]
  simp only [pay14_row]
  rfl

/-- The same along the whole row. -/
theorem pay16_row (r : Fin 1024) (e : Fin 8) :
    k0_pay16 x g b (ix2 r e) = rowMax (struck (softmax (logits x g b r)) (word1 (softmax (logits x g b r)))) := by
  pointwise [k0_pay16]
  exact pay15_row x g b r 0

/-- A row of the coefficients. -/
theorem coefBlock_row (r : Fin 1024) (e : Fin 8) : coefBlock x g b (ix2 r e) = coef eps (softmax (logits x g b r)) e := by
  unfold coefBlock
  pointwise [k0_pay17]
  simp only [pay11_row, pay12_row, pay13_row, pay14_row, pay15_row, pay16_row, select_cmpi_eq]
  rfl

/-- Writes of the experts' weights leave, at the column of expert `e` and hidden unit `h`, the weight of that expert. -/
theorem canon_joinPieces (w : Vec Ideal S8x832x384 .f32) (d : Fin 832) (e : Fin 8) (h : Fin 384) :
    ∀ l : List (Fin 8), e ∈ l → View.canon (l.map (joinPiece w)) (ix2 d (col e h)) = w (ix3 e d h)
  | k :: l, hl => by
    by_cases hk : e = k
    · subst hk
      have hi : (ix2 d (col e h) : S832x3072.Idx) = (joinPiece w e).1.emb (ix2 d h) := by
        refine (Rect.emb_eq_of_coords _ _ _ fun a => ?_).symm
        fin_cases a
        · show d.val = 0 + 1 * d.val
          omega
        · show 384 * e.val + h.val = 384 * e.val + 1 * h.val
          omega
      rw [hi]
      refine (View.canon_cons_emb _ _ _ _).trans ?_
      pointwise [k0_pay2]
    · rw [List.map_cons, View.canon_cons_of_not_mem]
      · exact canon_joinPieces w d e h l (by simpa [hk] using hl)
      · refine Rect.not_mem_set_of_axis _ _ 1 (384 * k.val) 384 rfl rfl rfl ?_
        have hk' : e.val ≠ k.val := fun hv => hk (Fin.ext hv)
        show 384 * e.val + h.val < 384 * k.val ∨ 384 * k.val + 384 ≤ 384 * e.val + h.val
        omega

/-- The joined weights at the column of expert `e` and hidden unit `h`. -/
theorem joined_col (w : Vec Ideal S8x832x384 .f32) (d : Fin 832) (e : Fin 8) (h : Fin 384) :
    joined w (ix2 d (col e h)) = w (ix3 e d h) :=
  canon_joinPieces w d e h [7, 6, 5, 4, 3, 2, 1, 0] ((by decide : ∀ k : Fin 8, k ∈ ([7, 6, 5, 4, 3, 2, 1, 0] : List (Fin 8))) e)

/-- The second-layer weights are kept as they are. -/
theorem pay10_eq (w : Vec Ideal S3072x768 .f32) (j : Fin 3072) (o : Fin 768) : k0_pay10 w (ix2 j o) = w (ix2 j o) := by
  pointwise [k0_pay10]

/-- A row of the weighted hidden values. -/
theorem hiddenBlock_row (w1 : Vec Ideal S832x3072 .bf16) (b1 : Vec Ideal S1x3072 .f32) (r : Fin 1024) (e : Fin 8) (h : Fin 384) :
    hiddenBlock x y g b w1 b1 (ix2 r (col e h))
      = max (∑ k : Fin 768, x (ix2 r k) * w1 (ix2 ⟨k.val, by omega⟩ (col e h)) + ∑ k : Fin 64, y (ix2 r k) * w1 (ix2 ⟨768 + k.val, by omega⟩ (col e h))
          + b1 (ix2 0 (col e h))) 0 * coef eps (softmax (logits x g b r)) e := by
  unfold hiddenBlock
  pointwise [k0_pay18]
  rw [← coefBlock_row x g b r e]
  exact congrArg (_ * ·) (sum_col_mask (fun k => coefBlock x g b (ix2 r k)) e h)

/-- A row of the output: the coefficients' mixture of the experts. -/
theorem outBlock_row (w1 : Vec Ideal S832x3072 .bf16) (b1 : Vec Ideal S1x3072 .f32) (w2 : Vec Ideal S3072x768 .bf16) (b2 : Vec Ideal S8x768 .f32)
    (r : Fin 1024) (o : Fin 768) :
    outBlock x y g b w1 b1 w2 b2 (ix2 r o)
      = ∑ e, coef eps (softmax (logits x g b r)) e * (∑ h, max (∑ k : Fin 768, x (ix2 r k) * w1 (ix2 ⟨k.val, by omega⟩ (col e h))
          + ∑ k : Fin 64, y (ix2 r k) * w1 (ix2 ⟨768 + k.val, by omega⟩ (col e h)) + b1 (ix2 0 (col e h))) 0 * w2 (ix2 (col e h) o) + b2 (ix2 e o)) := by
  unfold outBlock
  pointwise [k0_pay1]
  rw [sum_col]
  simp only [hiddenBlock_row, coefBlock_row]
  obtain ⟨ε, hε, h⟩ := eps_real
  refine mix _ (fun e => ?_) _ _ _
  rw [eps, h]
  exact coef_real ε hε _ (gateRow_softmax _) e

end Cert.Proof
-- ==== Proof.KernelArrays.lean ====
/- What the kernel's arrays hold after the run: each program's block from the blocks it reads, and the block of every row. -/
module

public import proofs.«01_k».proof.Proof.KernelRow
public import Idealize.ShloMosaic.Lib.StableHlo.Run
public import Idealize.ShloMosaic.Lib.Claim

@[expose] public section

set_option maxRecDepth 16384

noncomputable section

open Idealize.ShloMosaic Idealize.ShloMosaic.TcCoe Idealize.SL.Sem

namespace Cert.Proof

open Cert.KernelIdeal Cert.KernelIdeal.Gen

section
variable {F : FTy → Type} [FloatOps F] (m : (ℓ : Loc nD τ sig) → Buf (Elt F) ℓ)

/-- The first program. -/
abbrev first : Fin cfg0.N := ⟨0, by rw [show cfg0.N = 8 from N_0]; omega⟩

/-- After every program the scratch holds the two layers' weights that the first program put there. -/
theorem scratch_at (c : Dev nD) : ∀ (n : Nat) (h : n < cfg0.N),
    (outsAt0 m c n h).2.2 = (joined (iblk m c 4 first), k0_pay10 (iblk m c 6 first))
  | 0, h => by
    rw [outsAt0_A m c ⟨0, h⟩ rfl]
    dsimp only
    rw [sout_A_0, sout_A_1]
  | n + 1, h => by
    have hN : cfg0.N = 8 := N_0
    have hB : ¬(n + 1) % 8 = 0 := by omega
    rw [outsAt0_B m c ⟨n + 1, h⟩ hB]
    exact scratch_at c n (Nat.lt_of_succ_lt h)

/-- The block of the output that program `t` leaves. -/
theorem out8_at (c : Dev nD) (t : Fin cfg0.N) : (outsAt0 m c t.val t.isLt).1
    = outBlock (iblk m c 0 t) (iblk m c 1 t) (iblk m c 2 t) (iblk m c 3 t) (joined (iblk m c 4 first)) (iblk m c 5 t) (k0_pay10 (iblk m c 6 first)) (iblk m c 7 t) := by
  obtain ⟨n, h⟩ := t
  have hN : cfg0.N = 8 := N_0
  cases n with
  | zero =>
    rw [outsAt0_A m c ⟨0, h⟩ rfl]
    dsimp only
    rw [out_A_8]
  | succ n =>
    have hB : ¬(n + 1) % 8 = 0 := by omega
    have hs := scratch_at m c n (Nat.lt_of_succ_lt h)
    rw [outsAt0_B m c ⟨n + 1, h⟩ hB]
    dsimp only
    rw [out_B_8]
    simp only [Nat.add_sub_cancel, hs]

/-- The block of the probabilities that program `t` leaves. -/
theorem out9_at (c : Dev nD) (t : Fin cfg0.N) :
    (outsAt0 m c t.val t.isLt).2.1 = k0_pay11 (iblk m c 0 t) (iblk m c 2 t) (iblk m c 3 t) := by
  obtain ⟨n, h⟩ := t
  have hN : cfg0.N = 8 := N_0
  cases n with
  | zero =>
    rw [outsAt0_A m c ⟨0, h⟩ rfl]
    dsimp only
    rw [out_A_9]
  | succ n =>
    have hB : ¬(n + 1) % 8 = 0 := by omega
    rw [outsAt0_B m c ⟨n + 1, h⟩ hB]
    dsimp only
    rw [out_B_9]

end

section
variable (m : (ℓ : Loc nD τ sig) → Buf (Elt Ideal) ℓ) (c : Dev nD)

/-- The two row-blocked inputs move with the program; every other input stays. -/
theorem index_facts : ∀ t : Fin cfg0.N,
    (win0_0.index t (0 : Fin 2) = t.val ∧ win0_0.index t (1 : Fin 2) = 0) ∧ (win0_1.index t (0 : Fin 2) = t.val ∧ win0_1.index t (1 : Fin 2) = 0)
    ∧ (∀ a : Fin 2, win0_2.index t a = 0) ∧ (∀ a : Fin 2, win0_3.index t a = 0) ∧ (∀ a : Fin 3, win0_4.index t a = 0)
    ∧ (∀ a : Fin 2, win0_5.index t a = 0) ∧ (∀ a : Fin 2, win0_6.index t a = 0) ∧ (∀ a : Fin 2, win0_7.index t a = 0) :=
  (by decide +kernel : ∀ t : Fin grid0.N, _)

/-- The token that row `r` of program `t`'s block is. -/
def token (t : Fin cfg0.N) (r : Fin 1024) : Fin 8192 :=
  ⟨t.val * 1024 + r.val, by have h := lt_of_lt_of_eq t.isLt (show cfg0.N = 8 from N_0); omega⟩

theorem iblk0_apply (t : Fin cfg0.N) (r : Fin 1024) (k : Fin 768) :
    (iblk m c 0 t : Vec Ideal S1024x768 .f32) (ix2 r k) = m ((c : Thread nD τ).loc main_arg0) (ix2 (token t r) k) := by
  rw [← V_main_arg0 m c]
  refine congrArg (V m c main_arg0) (funext fun a => Fin.ext ?_)
  obtain ⟨⟨h0, h1⟩, -⟩ := index_facts t
  fin_cases a
  · show win0_0.index t (0 : Fin 2) * 1024 + 1 * r.val = t.val * 1024 + r.val
    rw [h0]; omega
  · show win0_0.index t (1 : Fin 2) * 768 + 1 * k.val = k.val
    rw [h1]; omega

theorem iblk1_apply (t : Fin cfg0.N) (r : Fin 1024) (k : Fin 64) :
    (iblk m c 1 t : Vec Ideal S1024x64 .f32) (ix2 r k) = m ((c : Thread nD τ).loc main_arg1) (ix2 (token t r) k) := by
  rw [← V_main_arg1 m c]
  refine congrArg (V m c main_arg1) (funext fun a => Fin.ext ?_)
  obtain ⟨-, ⟨h0, h1⟩, -⟩ := index_facts t
  fin_cases a
  · show win0_1.index t (0 : Fin 2) * 1024 + 1 * r.val = t.val * 1024 + r.val
    rw [h0]; omega
  · show win0_1.index t (1 : Fin 2) * 64 + 1 * k.val = k.val
    rw [h1]; omega

theorem iblk2_eq (t : Fin cfg0.N) : (iblk m c 2 t : Vec Ideal S768x8 .f32) = m ((c : Thread nD τ).loc main_arg2) := by
  rw [← V_main_arg2 m c]
  obtain ⟨-, -, h, -⟩ := index_facts t
  funext i
  refine congrArg (V m c main_arg2) (funext fun a => Fin.ext ?_)
  show win0_2.index t a * _ + 1 * (i a).val = (i a).val
  rw [h a]; omega

theorem iblk4_eq (t : Fin cfg0.N) : (iblk m c 4 t : Vec Ideal S8x832x384 .f32) = m ((c : Thread nD τ).loc main_arg4) := by
  rw [← V_main_arg4 m c]
  obtain ⟨-, -, -, -, h, -⟩ := index_facts t
  funext i
  refine congrArg (V m c main_arg4) (funext fun a => Fin.ext ?_)
  show win0_4.index t a * _ + 1 * (i a).val = (i a).val
  rw [h a]; omega

theorem iblk7_eq (t : Fin cfg0.N) : (iblk m c 7 t : Vec Ideal S8x768 .f32) = m ((c : Thread nD τ).loc main_arg7) := by
  rw [← V_main_arg7 m c]
  obtain ⟨-, -, -, -, -, -, -, h⟩ := index_facts t
  funext i
  refine congrArg (V m c main_arg7) (funext fun a => Fin.ext ?_)
  show win0_7.index t a * _ + 1 * (i a).val = (i a).val
  rw [h a]; omega

/-- The gate's bias, as a row. -/
theorem iblk3_apply (t : Fin cfg0.N) (e : Fin 8) :
    (iblk m c 3 t : Vec Ideal S1x8 .f32) (ix2 0 e) = m ((c : Thread nD τ).loc main_arg3) (ix1 e) := by
  obtain ⟨-, -, -, h, -⟩ := index_facts t
  have hi : (iblk m c 3 t : Vec Ideal S1x8 .f32) (ix2 0 e) = V m c main_v2 (ix2 0 e) := by
    refine congrArg (V m c main_v2) (funext fun a => Fin.ext ?_)
    show win0_3.index t a * _ + 1 * _ = _
    rw [h a]; omega
  rw [hi]
  entry_read
  exact shapeCast_apply (s := S8) (t := S1x8) _ _ _ _ (by
    rw [Shape.rowMajor_val_two, Shape.rowMajor_val_one]
    show e.val = 0 * 8 + e.val
    omega)

/-- The first layer's biases, all experts' side by side. -/
theorem iblk5_apply (t : Fin cfg0.N) (e : Fin 8) (h : Fin 384) :
    (iblk m c 5 t : Vec Ideal S1x3072 .f32) (ix2 0 (col e h)) = m ((c : Thread nD τ).loc main_arg5) (ix2 e h) := by
  obtain ⟨-, -, -, -, -, hx, -⟩ := index_facts t
  have hi : (iblk m c 5 t : Vec Ideal S1x3072 .f32) (ix2 0 (col e h)) = V m c main_v1 (ix2 0 (col e h)) := by
    refine congrArg (V m c main_v1) (funext fun a => Fin.ext ?_)
    show win0_5.index t a * _ + 1 * _ = _
    rw [hx a]; omega
  rw [hi]
  entry_read
  exact shapeCast_apply (s := S8x384) (t := S1x3072) _ _ _ _ (by
    rw [Shape.rowMajor_val_two, Shape.rowMajor_val_two]
    show e.val * 384 + h.val = 0 * 3072 + (384 * e.val + h.val)
    omega)

/-- The second layer's weights, all experts' under one another. -/
theorem iblk6_apply (t : Fin cfg0.N) (e : Fin 8) (h : Fin 384) (o : Fin 768) :
    (iblk m c 6 t : Vec Ideal S3072x768 .f32) (ix2 (col e h) o) = m ((c : Thread nD τ).loc main_arg6) (ix3 e h o) := by
  obtain ⟨-, -, -, -, -, -, hx, -⟩ := index_facts t
  have hi : (iblk m c 6 t : Vec Ideal S3072x768 .f32) (ix2 (col e h) o) = V m c main_v0 (ix2 (col e h) o) := by
    refine congrArg (V m c main_v0) (funext fun a => Fin.ext ?_)
    show win0_6.index t a * _ + 1 * _ = _
    rw [hx a]; omega
  rw [hi]
  entry_read
  exact shapeCast_apply (s := S8x384x768) (t := S3072x768) _ _ _ _ (by
    rw [Shape.rowMajor_val_three, Shape.rowMajor_val_two]
    show (e.val * 384 + h.val) * 768 + o.val = (384 * e.val + h.val) * 768 + o.val
    omega)

/-! ## The arguments read by plain indices -/

abbrev hiddenOf (r : Fin 8192) (k : Fin 768) : EReal := m ((c : Thread nD τ).loc main_arg0) (ix2 r k)
abbrev contextOf (r : Fin 8192) (k : Fin 64) : EReal := m ((c : Thread nD τ).loc main_arg1) (ix2 r k)
abbrev gateWOf (k : Fin 768) (e : Fin 8) : EReal := m ((c : Thread nD τ).loc main_arg2) (ix2 k e)
abbrev gateBOf (e : Fin 8) : EReal := m ((c : Thread nD τ).loc main_arg3) (ix1 e)
abbrev w1Of (e : Fin 8) (d : Fin 832) (h : Fin 384) : EReal := m ((c : Thread nD τ).loc main_arg4) (ix3 e d h)
abbrev b1Of (e : Fin 8) (h : Fin 384) : EReal := m ((c : Thread nD τ).loc main_arg5) (ix2 e h)
abbrev w2Of (e : Fin 8) (h : Fin 384) (o : Fin 768) : EReal := m ((c : Thread nD τ).loc main_arg6) (ix3 e h o)
abbrev b2Of (e : Fin 8) (o : Fin 768) : EReal := m ((c : Thread nD τ).loc main_arg7) (ix2 e o)

/-- The kernel's gate probabilities of token `r`. -/
abbrev gateOf (r : Fin 8192) : Fin 8 → EReal := gate (hiddenOf m c) (gateWOf m c) (gateBOf m c) r

/-- The block's logits are the token's. -/
theorem softmax_block (t : Fin cfg0.N) (r : Fin 1024) :
    softmax (logits (iblk m c 0 t) (iblk m c 2 t) (iblk m c 3 t) r) = gateOf m c (token t r) := by
  refine congrArg softmax (funext fun e => ?_)
  unfold logits
  simp only [iblk0_apply m c t, iblk3_apply m c t, iblk2_eq m c t]

/-- Row `r` of the block of probabilities that program `t` leaves. -/
theorem probs_block (t : Fin cfg0.N) (r : Fin 1024) (e : Fin 8) :
    (outsAt0 m c t.val t.isLt).2.1 (ix2 r e) = gateOf m c (token t r) e := by
  rw [out9_at, pay11_row, softmax_block]

/-- Row `r` of the block of the output that program `t` leaves. -/
theorem output_block (t : Fin cfg0.N) (r : Fin 1024) (o : Fin 768) :
    (outsAt0 m c t.val t.isLt).1 (ix2 r o) = ∑ e, coef eps (gateOf m c (token t r)) e
      * expert (hiddenOf m c) (contextOf m c) (w1Of m c) (b1Of m c) (w2Of m c) (b2Of m c) (token t r) e o := by
  rw [out8_at, outBlock_row, softmax_block]
  unfold expert
  simp only [iblk0_apply m c t, iblk1_apply m c t, joined_col, iblk4_eq m c, iblk5_apply m c t, pay10_eq, iblk6_apply m c, iblk7_eq m c t]

/-- The array of probabilities after the run. -/
theorem probs_array (r : Fin 8192) (e : Fin 8) : Cert.KernelIdeal.Value.G9 m c (ix2 r e) = gateOf m c r e := by
  have hN : cfg0.N = 8 := N_0
  have hp : 1 * (r.val / 1024 - 0) + 1 * (e.val / 8 - 0) < cfg0.N := by omega
  have ht : token ⟨_, hp⟩ ⟨r.val % 1024, by omega⟩ = r := Fin.ext (by
    show (1 * (r.val / 1024 - 0) + 1 * (e.val / 8 - 0)) * 1024 + r.val % 1024 = r.val
    omega)
  have hl : Cert.KernelIdeal.Value.loc9Of (ix2 r e) = ix2 ⟨r.val % 1024, by omega⟩ e := by
    funext a; apply Fin.ext
    match a with
    | ⟨0, _⟩ => rfl
    | ⟨1, _⟩ => show e.val % 8 = e.val; omega
  unfold Cert.KernelIdeal.Value.G9
  rw [dif_pos (show Cert.KernelIdeal.Value.pt9Of (ix2 r e) < cfg0.N from hp), ← Cert.KernelIdeal.Value.outsAt0_sweep, hl]
  exact (probs_block m c ⟨_, hp⟩ _ e).trans (by rw [ht])

/-- The array of the output after the run. -/
theorem output_array (r : Fin 8192) (o : Fin 768) : Cert.KernelIdeal.Value.G8 m c (ix2 r o) = ∑ e, coef eps (gateOf m c r) e
      * expert (hiddenOf m c) (contextOf m c) (w1Of m c) (b1Of m c) (w2Of m c) (b2Of m c) r e o := by
  have hN : cfg0.N = 8 := N_0
  have hp : 1 * (r.val / 1024 - 0) + 1 * (o.val / 768 - 0) < cfg0.N := by omega
  have ht : token ⟨_, hp⟩ ⟨r.val % 1024, by omega⟩ = r := Fin.ext (by
    show (1 * (r.val / 1024 - 0) + 1 * (o.val / 768 - 0)) * 1024 + r.val % 1024 = r.val
    omega)
  have hl : Cert.KernelIdeal.Value.loc8Of (ix2 r o) = ix2 ⟨r.val % 1024, by omega⟩ o := by
    funext a; apply Fin.ext
    match a with
    | ⟨0, _⟩ => rfl
    | ⟨1, _⟩ => show o.val % 768 = o.val; omega
  unfold Cert.KernelIdeal.Value.G8
  rw [dif_pos (show Cert.KernelIdeal.Value.pt8Of (ix2 r o) < cfg0.N from hp), ← Cert.KernelIdeal.Value.outsAt0_sweep, hl]
  exact (output_block m c ⟨_, hp⟩ _ o).trans (by rw [ht])

end

end Cert.Proof
-- ==== Proof.RefTopK.lean ====
/- The reference's choice of two experts per token: the two probabilities that come first in a stable sort of the eight,
   greater first, and their positions. -/
module

public import proofs.«01_k».proof.Proof.TopTwo
public import proofs.«01_k».proof.Proof.Gen.ReferenceIdeal.Read

@[expose] public section

set_option maxRecDepth 16384

noncomputable section

namespace Cert.Proof

open Idealize.ShloMosaic Cert.ReferenceIdeal Cert.ReferenceIdeal.Read

/-- The position that comes `k`-th when the eight numbers are sorted, greater first. -/
abbrev ranked (p : Fin 8 → EReal) (k : Fin 2) : Fin 8 := sortedFrom (greater p) ⟨k.val, by omega⟩

/-- Another column of the same row. -/
theorem along_row (r : Fin 8192) (e : Fin 8) (k : Fin 8) :
    Shape.Idx.along (s := S8192x8) (ix2 r e) 1 k = ix2 r k := by
  funext a
  match a with
  | ⟨0, _⟩ => rfl
  | ⟨1, _⟩ => rfl

/-- The order in which the sort through element `(r, e)` takes the columns. -/
def sortOrder (v : S8192x8.Idx → EReal) (r : Fin 8192) (e : Fin 8) (k k' : Fin 8) : Bool :=
  FloatOps.cmpfTotal (F := Ideal) (φ := FTy.f32) .gt (v (Shape.Idx.along (s := S8192x8) (ix2 r e) 1 k))
    (v (Shape.Idx.along (s := S8192x8) (ix2 r e) 1 k')) == 1#1

/-- It is "greater" on the row. -/
theorem sortOrder_eq (v : S8192x8.Idx → EReal) (r : Fin 8192) (e : Fin 8) :
    sortOrder v r e = greater fun e => v (ix2 r e) := by
  funext k k'
  unfold sortOrder greater
  rw [along_row, along_row, Ideal.cmpfTotal_def]
  by_cases h : v (ix2 r k') < v (ix2 r k) <;> simp [Ideal.cmp, CmpDirection.ordered, h]

/-- The chosen values of row `r`. -/
theorem topK_value (v : S8192x8.Idx → EReal) (h : S8192x8.Slices (fun _ => 0) S8192x2) (r : Fin 8192) (k : Fin 2) :
    (Host.topK S8192x2 1 (FloatOps.cmpfTotal (F := Ideal) (φ := FTy.f32) .gt) v h).1 (ix2 r k)
      = v (ix2 r (ranked (fun e => v (ix2 r e)) k)) := by
  unfold Host.topK
  dsimp only
  rw [extractStridedSlice_apply _ _ _ _ (ix2 r ⟨k.val, by omega⟩) (fun a => by
    match a with
    | ⟨0, _⟩ => exact (Nat.zero_add _).symm
    | ⟨1, _⟩ => exact (Nat.zero_add _).symm)]
  unfold Host.sort2
  rw [dif_pos (show 1 < S8192x8.rank from Nat.lt_succ_self 1)]
  refine (congrArg v (along_row r ⟨k.val, by omega⟩ (sortedFrom (sortOrder v r ⟨k.val, by omega⟩) ⟨k.val, by omega⟩))).trans ?_
  rw [sortOrder_eq]

/-- The chosen positions of row `r`. -/
theorem topK_index (v : S8192x8.Idx → EReal) (h : S8192x8.Slices (fun _ => 0) S8192x2) (r : Fin 8192) (k : Fin 2) :
    (Host.topK S8192x2 1 (FloatOps.cmpfTotal (F := Ideal) (φ := FTy.f32) .gt) v h).2 (ix2 r k)
      = BitVec.ofNat 32 (ranked (fun e => v (ix2 r e)) k).val := by
  unfold Host.topK
  dsimp only
  rw [extractStridedSlice_apply _ _ _ _ (ix2 r ⟨k.val, by omega⟩) (fun a => by
    match a with
    | ⟨0, _⟩ => exact (Nat.zero_add _).symm
    | ⟨1, _⟩ => exact (Nat.zero_add _).symm)]
  unfold Host.sort2
  rw [dif_pos (show 1 < S8192x8.rank from Nat.lt_succ_self 1)]
  show BitVec.ofNat 32 (sortedFrom (sortOrder v r ⟨k.val, _⟩) ⟨k.val, _⟩).val = _
  rw [sortOrder_eq]

end Cert.Proof
-- ==== Proof.RefGate.lean ====
/- The reference's gate probabilities and its dense expert outputs, read at an index. -/
module

public import proofs.«01_k».proof.Proof.Mixture
public import proofs.«01_k».proof.Proof.Gen.ReferenceIdeal.Read
public import Idealize.ShloMosaic.Lib.Pointwise

@[expose] public section

set_option maxRecDepth 16384

noncomputable section

namespace Cert.Proof

open Idealize.ShloMosaic Cert.ReferenceIdeal Cert.ReferenceIdeal.Read

variable (x0 : (⟨S8192x768, .f32⟩ : BufTy).Contents (Elt Ideal)) (x1 : (⟨S8192x64, .f32⟩ : BufTy).Contents (Elt Ideal))
  (x2 : (⟨S768x8, .f32⟩ : BufTy).Contents (Elt Ideal)) (x3 : (⟨S8, .f32⟩ : BufTy).Contents (Elt Ideal))
  (x4 : (⟨S8x832x384, .f32⟩ : BufTy).Contents (Elt Ideal)) (x5 : (⟨S8x384, .f32⟩ : BufTy).Contents (Elt Ideal))
  (x6 : (⟨S8x384x768, .f32⟩ : BufTy).Contents (Elt Ideal)) (x7 : (⟨S8x768, .f32⟩ : BufTy).Contents (Elt Ideal))

/-- The probabilities of the reference's arrays, token by token. -/
abbrev refGate (r : Fin 8192) : Fin 8 → EReal :=
  gate (fun r k => x0 (ix2 r k)) (fun k e => x2 (ix2 k e)) (fun e => x3 (ix1 e)) r

/-- The experts of the reference's arrays. -/
abbrev refExpert (r : Fin 8192) (e : Fin 8) (o : Fin 768) : EReal :=
  expert (fun r k => x0 (ix2 r k)) (fun r k => x1 (ix2 r k)) (fun e k h => x4 (ix3 e k h)) (fun e h => x5 (ix2 e h))
    (fun e h o => x6 (ix3 e h o)) (fun e o => x7 (ix2 e o)) r e o

/-- The logits. -/
theorem ref_logits (r : Fin 8192) (e : Fin 8) :
    val_main_v3 x0 x2 x3 (ix2 r e) = ∑ k : Fin 768, x0 (ix2 r k) * x2 (ix2 k e) + x3 (ix1 e) := by
  pointwise [val_main_v3, val_main_v2, val_main_v1, val_main_v0]

/-- Their greatest, row by row. -/
theorem ref_max (r : Fin 8192) :
    val_main_v6 x0 x2 x3 (ix1 r) = rowMax fun e => ∑ k : Fin 768, x0 (ix2 r k) * x2 (ix2 k e) + x3 (ix1 e) := by
  pointwise [val_main_v6, val_main_v5, val_main_cst_0, val_main_cst, val_main_v4, ofBits_bot, ref_logits]
  exact max_eq_right bot_le

/-- The reference's probabilities are the gate's. -/
theorem ref_probs (r : Fin 8192) (e : Fin 8) : val_main_v14 x0 x2 x3 (ix2 r e) = refGate x0 x2 x3 r e := by
  pointwise [val_main_v14, val_main_v13, val_main_v12, val_main_v11, val_main_v10, val_main_v9, val_main_v8, val_main_v7,
    val_main_cst_1, ref_max, ref_logits]
  rfl

/-- The reference's dense outputs are the experts'. -/
theorem ref_expert (e : Fin 8) (r : Fin 8192) (o : Fin 768) :
    val_main_v31 x0 x1 x4 x5 x6 x7 (ix3 e r o) = refExpert x0 x1 x4 x5 x6 x7 r e o := by
  pointwise [val_main_v31, val_main_v30, val_main_v29, val_main_v28, val_main_v27, val_main_v26, val_main_v25, val_main_v24,
    val_main_v23, val_main_v22, val_main_v21, val_main_call0_v0, val_main_call0_cst]
  simp only [expert, mul_comm (x4 _)]

end Cert.Proof
-- ==== Proof.RefValue.lean ====
/- The reference's first result, read at a token and an output coordinate: the two chosen experts' outputs, each weighted
   by its probability over the two probabilities' sum and the small constant. -/
module

public import proofs.«01_k».proof.Proof.RefTopK
public import proofs.«01_k».proof.Proof.RefGate
public import Idealize.ShloMosaic.Lib.Tactic.WordOmega

@[expose] public section

set_option maxRecDepth 16384

noncomputable section

namespace Cert.Proof

open Idealize.ShloMosaic Cert.ReferenceIdeal Cert.ReferenceIdeal.Read

/-! ## The gather -/

/-- A word that is small and not negative is not moved by the wrapping of negative positions. -/
theorem wrap_eq (w n : BitVec 32) (h : w.toNat < 8192) :
    Scalar.select (IntOp.cmpi .slt w 0#32) (IntOp.addi w n) w = w := by
  word_omega

/-- A small number's word, read signed and clamped to a greater number, is that number. -/
theorem clamp_eq (n m : Nat) (h : n ≤ m) (hm : m < 8192) : min (BitVec.ofNat 32 n).toInt.toNat m = n := by
  have h1 : (BitVec.ofNat 32 n).toInt = n := by
    rw [BitVec.toInt_eq_toNat_of_lt (by rw [BitVec.toNat_ofNat]; omega), BitVec.toNat_ofNat]
    omega
  rw [h1]
  omega

/-- The dimension numbers of the reference's gathers: start positions name the first two axes, the third is copied. -/
abbrev takeDims : GatherDims S8x8192x768 S8192x2 S8192x768 := gather_S8x8192x768_S8192x2_S8192x768_1_01_n_n_01_1_11768

/-- The start position of result `(r, o)` on one of the first two axes is the word in that column of row `r`. -/
theorem take_start (r : Fin 8192) (o : Fin 768) (c : Fin 2) : takeDims.siIdx (ix2 r o) c = ix2 r c := by
  funext b
  match b with
  | ⟨0, _⟩ => rfl
  | ⟨1, _⟩ => rfl

/-- The gather's result at `(r, o)`, from start positions that name expert `i` and token `r`: the operand at
    `(i, r, o)`. -/
theorem gather_row (x : S8x8192x768.Idx → EReal) (idx : IVec S8192x2 32) (r : Fin 8192) (o : Fin 768) (i : Fin 8)
    (h0 : idx (ix2 r 0) = BitVec.ofNat 32 i.val) (h1 : idx (ix2 r 1) = BitVec.ofNat 32 r.val) :
    Host.gather takeDims x idx (ix2 r o) = x (ix3 i r o) := by
  unfold Host.gather
  refine congrArg x ?_
  funext a
  refine Fin.ext ?_
  show takeDims.start (ix2 r o) idx a + takeDims.batchCoord (ix2 r o) a + takeDims.offCoord (ix2 r o) a = _
  rw [GatherDims.batchCoord_eq_zero _ _ _ List.not_mem_nil, Nat.add_zero]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1
      (show (0 : Fin 3) ∈ [(0 : Fin 3), 1] by decide))]
    unfold GatherDims.start
    rw [dif_pos (show (0 : Fin 3) ∈ takeDims.startIndexMap from (by decide : (0 : Fin 3) ∈ [(0 : Fin 3), 1]))]
    refine (congrArg (fun j => min (idx j).toInt.toNat 7) (take_start r o 0)).trans ?_
    rw [h0, clamp_eq _ _ (by omega) (by omega)]
    rfl
  · rw [GatherDims.offCoord_eq_zero _ _ _ (fun h => ((GatherDims.mem_sKept _ _).mp h).1
      (show (1 : Fin 3) ∈ [(0 : Fin 3), 1] by decide))]
    unfold GatherDims.start
    rw [dif_pos (show (1 : Fin 3) ∈ takeDims.startIndexMap from (by decide : (1 : Fin 3) ∈ [(0 : Fin 3), 1]))]
    refine (congrArg (fun j => min (idx j).toInt.toNat 8191) (take_start r o 1)).trans ?_
    rw [h1, clamp_eq _ _ (by omega) (by omega)]
    rfl
  · unfold GatherDims.start
    rw [dif_neg (show (2 : Fin 3) ∉ takeDims.startIndexMap from (by decide : (2 : Fin 3) ∉ [(0 : Fin 3), 1])), Nat.zero_add]
    unfold GatherDims.offCoord
    rw [dif_pos ((GatherDims.mem_sKept _ _).mpr ⟨show (2 : Fin 3) ∉ [(0 : Fin 3), 1] by decide, List.not_mem_nil⟩)]
    rfl

/-! ## The reference's arrays -/

variable (x0 : (⟨S8192x768, .f32⟩ : BufTy).Contents (Elt Ideal)) (x1 : (⟨S8192x64, .f32⟩ : BufTy).Contents (Elt Ideal))
  (x2 : (⟨S768x8, .f32⟩ : BufTy).Contents (Elt Ideal)) (x3 : (⟨S8, .f32⟩ : BufTy).Contents (Elt Ideal))
  (x4 : (⟨S8x832x384, .f32⟩ : BufTy).Contents (Elt Ideal)) (x5 : (⟨S8x384, .f32⟩ : BufTy).Contents (Elt Ideal))
  (x6 : (⟨S8x384x768, .f32⟩ : BufTy).Contents (Elt Ideal)) (x7 : (⟨S8x768, .f32⟩ : BufTy).Contents (Elt Ideal))

/-- The expert the reference chooses `k`-th for token `r`. -/
abbrev chosen (r : Fin 8192) (k : Fin 2) : Fin 8 := ranked (refGate x0 x2 x3 r) k

/-- The chosen probabilities. -/
theorem ref_value (r : Fin 8192) (k : Fin 2) :
    val_main_values x0 x2 x3 (ix2 r k) = refGate x0 x2 x3 r (chosen x0 x2 x3 r k) := by
  unfold val_main_values
  rw [topK_value, funext (ref_probs x0 x2 x3 r)]
  exact ref_probs x0 x2 x3 r _

/-- The chosen positions. -/
theorem ref_index (r : Fin 8192) (k : Fin 2) :
    val_main_indices x0 x2 x3 (ix2 r k) = BitVec.ofNat 32 (chosen x0 x2 x3 r k).val := by
  unfold val_main_indices
  rw [topK_index, funext (ref_probs x0 x2 x3 r)]

/-- The weight of the expert chosen `k`-th. -/
theorem ref_weight (r : Fin 8192) (k : Fin 2) :
    val_main_v20 x0 x2 x3 (ix2 r k) = Ideal.div (refGate x0 x2 x3 r (chosen x0 x2 x3 r k))
      (refGate x0 x2 x3 r (chosen x0 x2 x3 r 0) + refGate x0 x2 x3 r (chosen x0 x2 x3 r 1) + eps) := by
  pointwise [val_main_v20, val_main_v19, val_main_v18, val_main_v17, val_main_v16, val_main_v15, val_main_cst_2,
    val_main_cst_3, ref_value, Fin.sum_univ_two]

/-- The position words are small. -/
theorem small_word (n : Nat) (h : n < 8192) : (BitVec.ofNat 32 n).toNat < 8192 := by
  rw [BitVec.toNat_ofNat]; omega

/-- The start positions of the two gathers: the chosen expert, then the token. -/
theorem ref_start_first (r : Fin 8192) :
    val_main_v48 x0 x2 x3 (ix2 r 0) = BitVec.ofNat 32 (chosen x0 x2 x3 r 0).val := by
  pointwise [val_main_v48, val_main_v46, val_main_v40, val_main_v39, val_main_v38, val_main_v37, val_main_v36, val_main_v35,
    val_main_v34, val_main_c, val_main_c_5]
  rw [wrap_eq _ _ (by rw [ref_index]; exact small_word _ (by omega)), ref_index]

theorem ref_start_second (r : Fin 8192) :
    val_main_v68 x0 x2 x3 (ix2 r 0) = BitVec.ofNat 32 (chosen x0 x2 x3 r 1).val := by
  pointwise [val_main_v68, val_main_v66, val_main_v60, val_main_v59, val_main_v58, val_main_v57, val_main_v56, val_main_v55,
    val_main_v54, val_main_c_8, val_main_c_9]
  rw [wrap_eq _ _ (by rw [ref_index]; exact small_word _ (by omega)), ref_index]

theorem ref_token_first (r : Fin 8192) : val_main_v48 x0 x2 x3 (ix2 r 1) = BitVec.ofNat 32 r.val := by
  pointwise [val_main_v48, val_main_v47, val_main_v45, val_main_v44, val_main_v43, val_main_v42, val_main_v41, val_main_v32,
    val_main_c_6, val_main_c_7]
  exact wrap_eq _ _ (small_word _ r.isLt)

theorem ref_token_second (r : Fin 8192) : val_main_v68 x0 x2 x3 (ix2 r 1) = BitVec.ofNat 32 r.val := by
  pointwise [val_main_v68, val_main_v67, val_main_v65, val_main_v64, val_main_v63, val_main_v62, val_main_v61, val_main_v32,
    val_main_c_10, val_main_c_11]
  exact wrap_eq _ _ (small_word _ r.isLt)

/-- What the two gathers give: the chosen experts' outputs. -/
theorem ref_gather_first (r : Fin 8192) (o : Fin 768) : val_main_v49 x0 x1 x2 x3 x4 x5 x6 x7 (ix2 r o)
    = refExpert x0 x1 x4 x5 x6 x7 r (chosen x0 x2 x3 r 0) o := by
  unfold val_main_v49
  rw [gather_row _ _ r o _ (ref_start_first x0 x2 x3 r) (ref_token_first x0 x2 x3 r), ref_expert]

theorem ref_gather_second (r : Fin 8192) (o : Fin 768) : val_main_v69 x0 x1 x2 x3 x4 x5 x6 x7 (ix2 r o)
    = refExpert x0 x1 x4 x5 x6 x7 r (chosen x0 x2 x3 r 1) o := by
  unfold val_main_v69
  rw [gather_row _ _ r o _ (ref_start_second x0 x2 x3 r) (ref_token_second x0 x2 x3 r), ref_expert]

/-- The reference's first result. -/
theorem ref_output (r : Fin 8192) (o : Fin 768) : val_main_v73 x0 x1 x2 x3 x4 x5 x6 x7 (ix2 r o)
    = Ideal.div (refGate x0 x2 x3 r (chosen x0 x2 x3 r 0))
        (refGate x0 x2 x3 r (chosen x0 x2 x3 r 0) + refGate x0 x2 x3 r (chosen x0 x2 x3 r 1) + eps)
        * refExpert x0 x1 x4 x5 x6 x7 r (chosen x0 x2 x3 r 0) o
      + Ideal.div (refGate x0 x2 x3 r (chosen x0 x2 x3 r 1))
        (refGate x0 x2 x3 r (chosen x0 x2 x3 r 0) + refGate x0 x2 x3 r (chosen x0 x2 x3 r 1) + eps)
        * refExpert x0 x1 x4 x5 x6 x7 r (chosen x0 x2 x3 r 1) o := by
  pointwise [val_main_v73, val_main_v72, val_main_v71, val_main_v70, val_main_v53, val_main_v33, val_main_v52, val_main_v51,
    val_main_v50, val_main_cst_4, ref_weight, ref_gather_first, ref_gather_second]

end Cert.Proof
-- ==== Proof.Equation.lean ====
/- The equation: from the same arguments the kernel's two arrays are the reference's two results. -/
module

public import proofs.«01_k».proof.Proof.KernelArrays
public import proofs.«01_k».proof.Proof.RefValue

@[expose] public section

set_option maxRecDepth 16384

noncomputable section

open Idealize.ShloMosaic Idealize.ShloMosaic.TcCoe Idealize.SL.Sem

namespace Cert.Proof

open Cert.KernelIdeal

variable (m : (ℓ : Loc nD τ sig) → Buf (Elt Ideal) ℓ) (c : Dev nD)

/-- The kernel's probabilities are the reference's. -/
theorem probs_equal : Cert.KernelIdeal.Value.G9 m c = Cert.ReferenceIdeal.Read.val_main_v14 (F := Ideal)
    (m ((c : Thread nD τ).loc main_arg0)) (m ((c : Thread nD τ).loc main_arg2)) (m ((c : Thread nD τ).loc main_arg3)) := by
  funext j
  obtain ⟨r, e, rfl⟩ : ∃ (r : Fin 8192) (e : Fin 8), j = ix2 r e := ⟨_, _, eq_ix2 j⟩
  exact (probs_array m c r e).trans (ref_probs _ _ _ r e).symm

/-- The kernel's sum over all eight experts is the reference's sum over the two chosen. -/
theorem output_equal : Cert.KernelIdeal.Value.G8 m c = Cert.ReferenceIdeal.Read.val_main_v73 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  funext j
  obtain ⟨r, o, rfl⟩ : ∃ (r : Fin 8192) (o : Fin 768), j = ix2 r o := ⟨_, _, eq_ix2 j⟩
  obtain ⟨ε, hε, he⟩ := eps_real
  refine (output_array m c r o).trans (Eq.trans ?_ (ref_output _ _ _ _ _ _ _ _ r o).symm)
  rw [show eps = (ε : EReal) from he]
  exact sum_coef ε hε (gateOf m c r) _ (gateRow_softmax _) _ _ (topTwo_sortedFrom _)

end Cert.Proof
-- ==== Proof.lean ====
/- The certificate's five claims, put together: the three programs run without a fault, keep their arguments and end with
   every semaphore counter at zero; the kernel over the extended reals is the kernel's own text; and it computes what the
   reference computes. The witnesses of the facts the programs state come first in the last theorem. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as printed runs without a fault, leaves its arguments as they were and ends with every semaphore
    counter at zero. -/
theorem quiescent_kernel : Cert.quiescent_Kernel := fun m ρ _ => Cert.Kernel.Gen.frame m ρ

/-- The same of the kernel over the extended reals. -/
theorem quiescent_kernelIdeal : Cert.quiescent_KernelIdeal := fun m ρ _ => Cert.KernelIdeal.Gen.frame m ρ

/-- The same of the reference over the extended reals. -/
theorem quiescent_referenceIdeal : Cert.quiescent_ReferenceIdeal := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From memories that agree on the arguments, the kernel and the reference, both over the extended reals, end with
    equal outputs and equal gate probabilities. -/
theorem algebraic : Cert.algebraic_KernelIdeal_ReferenceIdeal := by
  intro m g m' g' _ hagree
  refine ⟨fun c => Cert.KernelIdeal.Value.G8 m c, fun c => Cert.KernelIdeal.Value.G9 m c,
    Cert.KernelIdeal.Value.run m g, ?_⟩
  refine (θ_run Cert.ReferenceIdeal.defs _ _).mono (fun r h c => ?_) (Cert.ReferenceIdeal.Value.run (F := Ideal) m' g')
  obtain ⟨h0, h1, h2, h3, h4, h5, h6, h7⟩ := hagree c
  obtain ⟨hout, hprobs, hargs⟩ := h c
  refine ⟨hout.trans ?_, hprobs.trans ?_, hargs⟩
  · rw [Cert.ReferenceIdeal.Read.val_main_v73_eq, h0, h1, h2, h3, h4, h5, h6, h7]
    exact (output_equal m c).symm
  · rw [Cert.ReferenceIdeal.Read.val_main_v14_eq, h0, h2, h3]
    exact (probs_equal m c).symm

/-- Everything the certificate claims. -/
theorem claim : Cert.Claim :=
  ⟨Cert.Kernel.Gen.facts, Cert.KernelIdeal.Gen.facts, Cert.ReferenceIdeal.Gen.facts, quiescent_kernel,
    quiescent_kernelIdeal, quiescent_referenceIdeal, trivial, algebraic⟩

end Cert.Proof

end
